-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_index [hPre_nonnegative_index : Cert.Pre_nonnegative_index.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_index [hPre_nonnegative_index : Cert.Pre_nonnegative_index.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_index.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonnegative_index [hKernelIdeal : Cert.KernelIdeal.Facts] [hPre_nonnegative_index : Cert.Pre_nonnegative_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_index m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonnegative_index [hReferenceIdeal : Cert.ReferenceIdeal.Facts] [hPre_nonnegative_index : Cert.Pre_nonnegative_index.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_index m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonnegative_index [hKernelIdeal : Cert.KernelIdeal.Facts] [hReferenceIdeal : Cert.ReferenceIdeal.Facts] [hPre_nonnegative_index : Cert.Pre_nonnegative_index.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_index m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonnegative_index : Cert.Pre_nonnegative_index.Facts),
    quiescent_Kernel (hKernel := hKernel)
    ∧ quiescent_KernelIdeal (hKernelIdeal := hKernelIdeal)
    ∧ quiescent_KernelIdeal_pre_nonnegative_index (hKernelIdeal := hKernelIdeal) (hPre_nonnegative_index := hPre_nonnegative_index)
    ∧ quiescent_ReferenceIdeal (hReferenceIdeal := hReferenceIdeal)
    ∧ quiescent_ReferenceIdeal_pre_nonnegative_index (hReferenceIdeal := hReferenceIdeal) (hPre_nonnegative_index := hPre_nonnegative_index)
    ∧ preserves_Kernel_KernelIdeal
    ∧ algebraic_KernelIdeal_ReferenceIdeal_pre_nonnegative_index (hKernelIdeal := hKernelIdeal) (hReferenceIdeal := hReferenceIdeal) (hPre_nonnegative_index := hPre_nonnegative_index)
-- ==== Pre_nonnegative_index.lean ====
abbrev S50x1 : Shape := ⟨2, ![50, 1]⟩
abbrev S50 : Shape := ⟨1, ![50]⟩
abbrev S32 : Shape := ⟨1, ![32]⟩
abbrev S_ : Shape := ⟨0, ![]⟩

class Facts : Prop where
  bcast_S_S50 : S_.BroadcastsInDim S50 (![] : Fin 0 → Fin S50.rank)
  reducesTo_S50_S_d0 : S50.ReducesTo [0] S_
  h_S_ : 0 < S_.numel

variable [Facts]

def fn {F : FTy → Type} [FloatOps F] (main_arg0 : FVec F S50x1 .f32) (main_arg1 : IVec S50 32) (main_arg2 : FVec F S32 .f32) : IVec S_ 1 :=
  let main_c : IVec S_ 32 := constantI S_ 32 0#32
  let main_v0 : IVec S50 32 := broadcastInDim S50 ![] bcast_S_S50 main_c
  let main_v1 : IVec S50 1 := cmpi .sge main_arg1 main_v0
  let main_c_0 : IVec S_ 1 := constantI S_ 1 1#1
  let main_v2 : IVec S_ 1 := (fun x v => Host.reduce IntOp.andi x v reducesTo_S50_S_d0 h_S_) main_v1 main_c_0
  main_v2
-- ==== Kernel.lean ====
abbrev S50x1 : Shape := ⟨2, ![50, 1]⟩
abbrev S50 : Shape := ⟨1, ![50]⟩
abbrev S32 : Shape := ⟨1, ![32]⟩
abbrev S_ : Shape := ⟨0, ![]⟩
abbrev S64 : Shape := ⟨1, ![64]⟩
abbrev S96 : Shape := ⟨1, ![96]⟩
abbrev S32x96 : Shape := ⟨2, ![32, 96]⟩
abbrev S16 : Shape := ⟨1, ![16]⟩
abbrev S1 : Shape := ⟨1, ![1]⟩
abbrev S1x96 : Shape := ⟨2, ![1, 96]⟩

abbrev nBuf : Table → Nat
  | .hbm => 12
  | .local .scVector .vmem => 3
  | _ => 0

abbrev bufTy : (tb : Table) → Fin (nBuf tb) → BufTy
  | .hbm, ⟨0, _⟩ => ⟨S50x1, .f32⟩
  | .hbm, ⟨1, _⟩ => ⟨S50, .i32⟩
  | .hbm, ⟨2, _⟩ => ⟨S32, .f32⟩
  | .hbm, ⟨3, _⟩ => ⟨S50, .f32⟩
  | .hbm, ⟨4, _⟩ => ⟨S_, .i32⟩
  | .hbm, ⟨5, _⟩ => ⟨S_, .f32⟩
  | .hbm, ⟨6, _⟩ => ⟨S64, .f32⟩
  | .hbm, ⟨7, _⟩ => ⟨S96, .f32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S32x96, .f32⟩
  | .local .scVector .vmem, ⟨0, _⟩ => ⟨S96, .f32⟩
  | .local .scVector .vmem, ⟨1, _⟩ => ⟨S64, .i32⟩
  | .local .scVector .vmem, ⟨2, _⟩ => ⟨S96, .f32⟩
  | _, _ => ⟨S50x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v2_scv : Ref sig .scVector := ⟨.hbm, 7, rfl⟩
abbrev main_v3_scv : Ref sig .scVector := ⟨.hbm, 10, rfl⟩
abbrev main_v4_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50x1 : Shape := ⟨2, ![50, 1]⟩
abbrev S50 : Shape := ⟨1, ![50]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x1x32 : Shape := ⟨3, ![32, 1, 32]⟩
abbrev S32x32x1 : Shape := ⟨3, ![32, 32, 1]⟩
abbrev S32x24 : Shape := ⟨2, ![32, 24]⟩
abbrev S32x40 : Shape := ⟨2, ![32, 40]⟩
abbrev S32x96 : Shape := ⟨2, ![32, 96]⟩

abbrev nBuf : Space → Nat
  | .hbm => 24
  | .vmem => 0
  | .smem => 0
  | _ => 0

abbrev bufTy : (tb : Table) → Fin (tcTables nBuf tb) → BufTy
  | .hbm, ⟨0, _⟩ => ⟨S50x1, .f32⟩
  | .hbm, ⟨1, _⟩ => ⟨S50, .i32⟩
  | .hbm, ⟨2, _⟩ => ⟨S32, .f32⟩
  | .hbm, ⟨3, _⟩ => ⟨S_, .f32⟩
  | .hbm, ⟨4, _⟩ => ⟨S32x1, .f32⟩
  | .hbm, ⟨5, _⟩ => ⟨S_, .i32⟩
  | .hbm, ⟨6, _⟩ => ⟨S50, .i32⟩
  | .hbm, ⟨7, _⟩ => ⟨S50, .i1⟩
  | .hbm, ⟨8, _⟩ => ⟨S_, .i32⟩
  | .hbm, ⟨9, _⟩ => ⟨S50, .i32⟩
  | .hbm, ⟨10, _⟩ => ⟨S50, .i32⟩
  | .hbm, ⟨11, _⟩ => ⟨S50, .i32⟩
  | .hbm, ⟨12, _⟩ => ⟨S50x1, .i32⟩
  | .hbm, ⟨13, _⟩ => ⟨S32x1, .f32⟩
  | .hbm, ⟨14, _⟩ => ⟨S1x32, .f32⟩
  | .hbm, ⟨15, _⟩ => ⟨S32x32, .f32⟩
  | .hbm, ⟨16, _⟩ => ⟨S32x1x32, .f32⟩
  | .hbm, ⟨17, _⟩ => ⟨S32x32x1, .f32⟩
  | .hbm, ⟨18, _⟩ => ⟨S32x32, .f32⟩
  | .hbm, ⟨19, _⟩ => ⟨S_, .f32⟩
  | .hbm, ⟨20, _⟩ => ⟨S32x24, .f32⟩
  | .hbm, ⟨21, _⟩ => ⟨S_, .f32⟩
  | .hbm, ⟨22, _⟩ => ⟨S32x40, .f32⟩
  | .hbm, ⟨23, _⟩ => ⟨S32x96, .f32⟩
  | _, _ => ⟨S50x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Segment.lean ====
module

public import proofs.«01_k».proof.Defs
public import Idealize.ShloMosaic.Lib.ValueIdxCore
public import Idealize.ShloMosaic.Lib.Pointwise
public import proofs.«01_k».proof.Proof.Gen.KernelIdeal
public import proofs.«01_k».proof.Proof.Gen.KernelIdeal.Skeleton

@[expose] public section

/-! # What a tile of the kernel computes

A tile works on the 96 words of `data` (64 values, then the 32 weights) and the 64 words of `idx`, and writes one row of
the result. `rowVal` states that row in closed form; the theorems of this file say that the vectors which the
kernel's program stores are the pieces of `rowVal`. All of it holds for floats of any kind. -/

noncomputable section

namespace Cert.Proof.Segment

open Cert.KernelIdeal Cert.KernelIdeal.Gen
open Idealize.ShloMosaic

variable {F : FTy → Type} [FloatOps F]

/-- The value at place `k`, when the index there is the segment `w`; otherwise zero. -/
def pick (w : BitVec 32) (D : Fin 96 → F .f32) (X : Fin 64 → BitVec 32) (k : Fin 64) : F .f32 :=
  Scalar.select (IntOp.cmpi .eq (X k) w) (D (k.castLE (by decide))) (Scalar.ofBits .f32 0#32)

/-- Lane `j` of the accumulator: the picked values at places `j`, `16 + j`, `32 + j` and `48 + j`, added in this order to zero. -/
def lane (w : BitVec 32) (D : Fin 96 → F .f32) (X : Fin 64 → BitVec 32) (j : Fin 16) : F .f32 :=
  (List.finRange 4).foldl (fun a b => FloatOps.addf a (pick w D X ⟨16 * b.val + j.val, by omega⟩)) (Scalar.ofBits .f32 0#32)

/-- The sum of segment `w`: the lanes added from the first to the last. -/
def segSum (w : BitVec 32) (D : Fin 96 → F .f32) (X : Fin 64 → BitVec 32) : F .f32 :=
  (List.finRange 15).foldl (fun a j => Scalar.addf a (lane w D X j.succ)) (lane w D X 0)

/-- The row of segment `w`: the segment's sum times each of the 32 weights, then zeros. -/
def rowVal (w : BitVec 32) (D : Fin 96 → F .f32) (X : Fin 64 → BitVec 32) (k : Fin 96) : F .f32 :=
  if h : k.val < 32 then FloatOps.mulf (segSum w D X) (D ⟨64 + k.val, by omega⟩) else Scalar.ofBits .f32 0#32

/-- The whole result: row `r` is the row of segment `r`. -/
def outVal (D : Fin 96 → F .f32) (X : Fin 64 → BitVec 32) : S32x96.Idx → F .f32 :=
  fun y => rowVal (BitVec.ofNat 32 (y 0).val) D X (y 1)

/-- An array of rank 1 as a list of words. -/
abbrev words {n : Nat} {α : Type} (f : (⟨1, ![n]⟩ : Shape).Idx → α) : Fin n → α := fun k => f (ValueIdx.ix1 k)

/-- Sixteen consecutive words from place `o` on. -/
def window {n : Nat} {α : Type} (o : Nat) (h : o + 16 ≤ n) (D : Fin n → α) : S16.Idx → α :=
  fun x => D ⟨o + (x 0).val, Nat.lt_of_lt_of_le (Nat.add_lt_add_left (x 0).isLt o) h⟩

/-- A cast between equal shapes changes nothing. -/
theorem shapeCast_same {α : Type} {s : Shape} (x : s.Idx → α) (h : s.ShapeCasts s) : shapeCast s x h = x := by
  funext j
  exact congrArg x (by simp [Shape.reshapeEquiv])

/-- The segment of the tile at `i`: twice its subcore's number plus its core's. -/
def word (i : grid0.Coords) : BitVec 32 := Scalar.addi (Scalar.muli (BitVec.ofNat 32 (i 1).val) 2#32) (BitVec.ofNat 32 (i 0).val)

section Payloads

variable (i : grid0.Coords) (D : Fin 96 → F .f32) (X : Fin 64 → BitVec 32)

/-- The accumulator after the four loads holds the lanes. -/
theorem acc_eq (x : S16.Idx) :
    k0_pay6 i (window 0 (by decide) D) (window 0 (by decide) X) (window 16 (by decide) D) (window 16 (by decide) X)
      (window 32 (by decide) D) (window 32 (by decide) X) (window 48 (by decide) D) (window 48 (by decide) X) x
      = lane (word i) D X (x 0) := by
  unfold k0_pay6
  simp only [shapeCast_same]
  rfl

/-- The sixteen lanes, added from the first to the last by the kernel's scalar additions, are the segment's sum. -/
theorem sum_eq :
    k0_pay9
        (k0_pay6 i (window 0 (by decide) D) (window 0 (by decide) X) (window 16 (by decide) D) (window 16 (by decide) X)
          (window 32 (by decide) D) (window 32 (by decide) X) (window 48 (by decide) D) (window 48 (by decide) X))
        (k0_pay7 i (window 0 (by decide) D) (window 0 (by decide) X) (window 16 (by decide) D) (window 16 (by decide) X)
          (window 32 (by decide) D) (window 32 (by decide) X) (window 48 (by decide) D) (window 48 (by decide) X))
        (k0_pay8 i (window 0 (by decide) D) (window 0 (by decide) X) (window 16 (by decide) D) (window 16 (by decide) X)
          (window 32 (by decide) D) (window 32 (by decide) X) (window 48 (by decide) D) (window 48 (by decide) X))
      = segSum (word i) D X := by
  unfold k0_pay9 k0_pay7 k0_pay8
  rw [funext (acc_eq i D X)]
  rfl

/-- The first half of the weighted row. -/
theorem store0_eq (v : FVec F S16 .f32) (a : F .f32) (b : FVec F S1 .f32) (hs : k0_pay9 v a b = segSum (word i) D X) (x : S16.Idx) :
    k0_pay10 v a b (window 64 (by decide) D) x = rowVal (word i) D X ⟨0 + (x 0).val, Nat.lt_of_lt_of_le (Nat.add_lt_add_left (x 0).isLt 0) (by decide)⟩ := by
  have hx : (x 0).val < 16 := (x 0).isLt
  unfold k0_pay10 rowVal
  rw [hs, dif_pos (show 0 + (x 0).val < 32 by omega)]
  simp only [shapeCast_same]
  exact congrArg (fun k => FloatOps.mulf (segSum (word i) D X) (D k)) (Fin.ext (by show 64 + (x 0).val = 64 + (0 + (x 0).val); omega))

/-- The second half of the weighted row. -/
theorem store1_eq (v : FVec F S16 .f32) (a : F .f32) (b : FVec F S1 .f32) (hs : k0_pay9 v a b = segSum (word i) D X) (x : S16.Idx) :
    k0_pay11 v a b (window 80 (by decide) D) x = rowVal (word i) D X ⟨16 + (x 0).val, Nat.lt_of_lt_of_le (Nat.add_lt_add_left (x 0).isLt 16) (by decide)⟩ := by
  have hx : (x 0).val < 16 := (x 0).isLt
  unfold k0_pay11 rowVal
  rw [hs, dif_pos (show 16 + (x 0).val < 32 by omega)]
  simp only [shapeCast_same]
  exact congrArg (fun k => FloatOps.mulf (segSum (word i) D X) (D k)) (Fin.ext (by show 80 + (x 0).val = 64 + (16 + (x 0).val); omega))

/-- From place 32 on the row is zero. -/
theorem zero_eq (o : Nat) (h32 : 32 ≤ o) (h : o + 16 ≤ 96) (x : S16.Idx) :
    shapeCast S16 (k0_pay5 (F := F)) shapeCasts_S16_S16 x = rowVal (word i) D X ⟨o + (x 0).val, Nat.lt_of_lt_of_le (Nat.add_lt_add_left (x 0).isLt o) h⟩ := by
  unfold rowVal
  rw [shapeCast_same, dif_neg (show ¬ o + (x 0).val < 32 by omega)]
  rfl

end Payloads

end Cert.Proof.Segment

end
-- ==== Proof.KernelIdealRun.lean ====
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.Writes
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.KernelIdeal
public import proofs.«01_k».proof.Proof.Gen.KernelIdeal.Skeleton
public import proofs.«01_k».proof.Proof.Segment

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Segment

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "dV" => (Memref.whole Cert.KernelIdeal.main_v2_scv : Memref Cert.KernelIdeal.sig Kind.scVector Space.hbm Cert.KernelIdeal.S96 EltTy.f32)
local notation "iV" => (Memref.whole Cert.KernelIdeal.main_v3_scv : Memref Cert.KernelIdeal.sig Kind.scVector Space.hbm Cert.KernelIdeal.S64 EltTy.i32)
local notation "oV" => (Memref.whole Cert.KernelIdeal.main_v4_scv : Memref Cert.KernelIdeal.sig Kind.scVector Space.hbm Cert.KernelIdeal.S32x96 EltTy.f32)
local notation "aV" => (Memref.whole Cert.KernelIdeal.cc0_scratch0 : Memref Cert.KernelIdeal.sig Kind.scVector Space.vmem Cert.KernelIdeal.S96 EltTy.f32)
local notation "bV" => (Memref.whole Cert.KernelIdeal.cc0_scratch1 : Memref Cert.KernelIdeal.sig Kind.scVector Space.vmem Cert.KernelIdeal.S64 EltTy.i32)
local notation "rV" => (Memref.whole Cert.KernelIdeal.cc0_scratch2 : Memref Cert.KernelIdeal.sig Kind.scVector Space.vmem Cert.KernelIdeal.S96 EltTy.f32)

/-! ## Arrays, rows and shares -/

abbrev dLoc (d : Dev nD) : Loc nD τ sig := (SparseCore.T d).loc main_v2
abbrev iLoc (d : Dev nD) : Loc nD τ sig := (SparseCore.T d).loc main_v3
abbrev oLoc (d : Dev nD) : Loc nD τ sig := (SparseCore.T d).loc main_v4

theorem rows_dvd : 32 ∣ S32x96.size 0 := ⟨1, rfl⟩
abbrev row (w : Fin 32) : Rect S32x96 := Rect.part (s := S32x96) (a₀ := 0) rows_dvd w
abbrev rowSet (w : Fin 32) : Finset S32x96.Idx := ((oV).view.slice (row w)).set

/-- The share of a read-only array that the tile of row `w` holds: one of the 32 the full share is cut into. -/
abbrev part32 (w : Fin 32) : PosShare TreeShare := ShareLeaves.leaf 5 fullShare w

/-- The row that tile `s` of SparseCore `c` writes. -/
def wid (c : Fin 2) (s : Fin 16) : Fin 32 := ⟨2 * s.val + c.val, by omega⟩

variable [FloatOps F]

/-- What a tile holds of the two arrays it reads, and of the array it writes. -/
abbrev dPts (d : Dev nD) (w : Fin 32) (f : Buf (Elt F) (dLoc d)) : sProp 𝕄 := dLoc d ↦{part32 w} f
abbrev iPts (d : Dev nD) (w : Fin 32) (f : Buf (Elt F) (iLoc d)) : sProp 𝕄 := iLoc d ↦{part32 w} f
abbrev oPts (d : Dev nD) (w : Fin 32) (f : Buf (Elt F) (oLoc d)) : sProp 𝕄 := oLoc d ↦[rowSet w]{fullShare} f

/-- The words of the two arrays that a tile reads, and the result that all tiles together leave. -/
abbrev dW (d : Dev nD) (f : Buf (Elt F) (dLoc d)) : Fin 96 → F .f32 := words (n := 96) (α := F .f32) f
abbrev iW (d : Dev nD) (f : Buf (Elt F) (iLoc d)) : Fin 64 → BitVec 32 := words (n := 64) (α := BitVec 32) f
abbrev OUT (d : Dev nD) (f : Buf (Elt F) (dLoc d)) (g : Buf (Elt F) (iLoc d)) : Buf (Elt F) (oLoc d) := outVal (dW d f) (iW d g)

omit [FloatOps F] in
/-- Place `x` of the sixteen places from `o` on in an array of rank 1. -/
theorem rank1_emb {n : Nat} (o : Nat) (inb : ∀ a, (![o] : Fin 1 → Nat) a + S16.size a ≤ (⟨1, ![n]⟩ : Shape).size a) (x : S16.Idx) (h : o + 16 ≤ n) :
    (Rect.unit (s := ⟨1, ![n]⟩) ![o] S16.size inb).emb x = ValueIdx.ix1 ⟨o + (x 0).val, Nat.lt_of_lt_of_le (Nat.add_lt_add_left (x 0).isLt o) h⟩ :=
  (Rect.unit (s := ⟨1, ![n]⟩) ![o] S16.size inb).emb_eq_of_coords x _ fun (a : Fin 1) => by
    match a with
    | ⟨0, _⟩ => simp [Rect.unit]

section Tile

variable (d : Dev nD) (L : grid0.Coords)

abbrev cV (L : grid0.Coords) : Fin τ.nSC := (L 0).castLE hcore0
abbrev sV (L : grid0.Coords) : Fin τ.nSub := (L 1).castLE hsub0
abbrev thr (d : Dev nD) (L : grid0.Coords) : Thread nD τ := V d (cV L) (sV L)

/-- The row of tile `L`. -/
abbrev wL (L : grid0.Coords) : Fin 32 := wid (L 0) (L 1)

abbrev rowK (L : grid0.Coords) : Rect S32x96 := Rect.unit (s := S32x96) (k0_off1 L) S1x96.size (k0_off1_inb L)
/-- The row as the tile addresses it: cut out of the result and squeezed to rank 1. -/
abbrev oRow (L : grid0.Coords) : Memref sig .scVector .hbm S96 .f32 := ((oV).slice (rowK L) (fun _ => rfl)).squeeze S96 squeezes_S1x96_S96

omit [FloatOps F] in
theorem rowK_eq : rowK L = row (wL L) := by
  unfold rowK row Rect.part Rect.block
  congr 1 <;> funext a
  · rw [k0_off1_eq]
    match a with
    | 0 => simp [Shape.partIx, Shape.partSize, wL, wid]
    | 1 => simp [Shape.partIx, Shape.partSize]
  · match a with
    | 0 => simp [Shape.partSize]
    | 1 => simp [Shape.partSize]

omit [FloatOps F] in
theorem set_oRow : (oRow L).view.set = rowSet (wL L) := by
  show (((oV).view.slice (rowK L)).reshape S96 squeezes_S1x96_S96.numel_eq).set = ((oV).view.slice (row (wL L))).set
  rw [View.set_reshape]
  exact rowK_eq L ▸ rfl

omit [FloatOps F] in
theorem pts_oRow (f : Buf (Elt F) (oLoc d)) :
    ((oRow L).view.loc (thr d L) ↦[(oRow L).view.set]{fullShare} f : sProp 𝕄) = oLoc d ↦[rowSet (wL L)]{fullShare} f := by
  rw [set_oRow]

abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)

omit [FloatOps F] in
theorem ownSems0_tile :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] in
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (sV L))).erase ((Proc.scVector (cV L) (sV L)).devRef cc0_scratch0)).erase
              ((Proc.scVector (cV L) (sV L)).devRef cc0_scratch1)).erase ((Proc.scVector (cV L) (sV L)).devRef cc0_scratch2))
              fun b => iprop(∃ f, ((d, b) : Loc nD τ sig) ↦{fullShare} f)) := by
  unfold SparseCore.Cfg.ownBufs
  have own : ∀ r : Ref sig .scVector, ((Proc.scVector (cV L) (sV L)).devRef r : DevRef τ sig).owner = _ → (Proc.scVector (cV L) (sV L)).devRef r ∈ ownRefs (τ := τ) (.scVector (cV L) (sV L)) :=
    fun r h => SparseCore.Cfg.mem_ownRefs_of_owner (p := Proc.scVector (cV L) (sV L)) (b := (Proc.scVector (cV L) (sV L)).devRef r) h
  have ne : ∀ r r' : Ref sig .scVector, r ≠ r' → ((Proc.scVector (cV L) (sV L)).devRef r : DevRef τ sig) ≠ (Proc.scVector (cV L) (sV L)).devRef r' :=
    fun r r' h e => h (Proc.devRef_injective _ e)
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

omit [FloatOps F] in
/-- The segment that the tile computes from its coordinates is the row it writes. -/
theorem word_eq : word L = BitVec.ofNat 32 (wL L).val := by
  have h0 : (L 0).val < 2 := (L 0).isLt
  have h1 : (L 1).val < 16 := (L 1).isLt
  apply BitVec.eq_of_toNat_eq
  simp [word, wL, wid, Scalar.addi, Scalar.muli, IntOp.addi, IntOp.muli]
  omega

omit [FloatOps F] in
/-- Place `y` of the tile's row is place `y` of row `wL L` of the result. -/
theorem oRow_emb (y : S96.Idx) : (oRow L).view.emb y = ix2 (wL L) (y 0) := by
  show (rowK L).emb (Shape.reshapeEquiv (s := S1x96) squeezes_S1x96_S96.numel_eq y) = ix2 (wL L) (y 0)
  rw [show Shape.reshapeEquiv (s := S1x96) squeezes_S1x96_S96.numel_eq y = Fin.cons ⟨0, Nat.one_pos⟩ y from Shape.reshapeEquiv_cons_one _ y]
  refine (rowK L).emb_eq_of_coords _ _ fun (a : Fin 2) => ?_
  rw [show (rowK L).off a = _ from congrFun (k0_off1_eq L) a]
  match a with
  | ⟨0, _⟩ => simp [wL, wid]; rfl
  | ⟨1, _⟩ => simp; rfl

/-- The row after the tile's last transfer, which carried the row of its segment. -/
theorem row_written (fo : Buf (Elt F) (oLoc d)) (DATA : Buf (Elt F) (dLoc d)) (IDX : Buf (Elt F) (iLoc d)) (w : S96.Idx → F .f32)
    (hw : w = fun y => rowVal (word L) (dW d DATA) (iW d IDX) (y 0)) :
    ((oRow L).view.loc (thr d L) ↦[(oRow L).view.set]{fullShare} (oRow L).view.writes (Elt F) fo [⟨Rect.whole S96, w⟩] : sProp 𝕄)
      = oPts d (wL L) (OUT d DATA IDX) := by
  refine (pointsTo_congr fun i hi => ?_).trans (pts_oRow (F := F) d L (OUT d DATA IDX))
  obtain ⟨y, -, rfl⟩ := Finset.mem_map.mp hi
  have e := View.read_writes_cons_emb (oRow L).view fo (Rect.whole S96) w [] y
  rw [Rect.emb_whole_apply] at e
  refine e.trans ?_
  rw [hw, oRow_emb, word_eq]
  rfl

variable (DATA : Buf (Elt F) (dLoc d)) (IDX : Buf (Elt F) (iLoc d)) (fo : Buf (Elt F) (oLoc d))

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp
        ∗ (dPts d (wL L) DATA ∗ iPts d (wL L) IDX ∗ oPts d (wL L) fo)
        ∗ scopedBufs (thr d L) ∗ scopedSems0 (thr d L) ∗ owes (thr d L) O W)
      ⊢ wp frame (wpE (defs₀ (F := F)) 𝒱₀ (thr d L) none) Set.univ
          (cc0__sc_segsum_outer L dV (Memref.isWhole_whole _) iV (Memref.isWhole_whole _) oV (Memref.isWhole_whole _)
            aV (Memref.isWhole_whole _) bV (Memref.isWhole_whole _) rV (Memref.isWhole_whole _) cc0_scoped0 cc0_scoped1 cc0_scoped2)
          fun _ => iprop((dPts d (wL L) DATA ∗ iPts d (wL L) IDX ∗ oPts d (wL L) (OUT d DATA IDX))
            ∗ scopedBufs (thr d L) ∗ scopedSems0 (thr d L)
            ∗ ∃ W', ⌜∀ p ∈ W', p ∈ W ∨ p.2 = none⌝ ∗ owes (thr d L) O W') := by
  simp only [cc0__sc_segsum_outer_eq_skeleton]; unfold cc0__sc_segsum_outer_skel
  simp only [k0_part1_eq_skeleton, k0_part2_eq_skeleton]; unfold k0_part1_skel k0_part2_skel
  rw [(K (F := F)).scopedBufs_V hF d (cV L) (sV L), SparseCore.Cfg.scopedSems0_V (Val := Elt F) d (cV L) (sV L), ownSems0_tile, ownBufs_tile]
  iintro ⟨#Hlv, -, ⟨Hd, Hi, Ho⟩, ⟨⟨%fa, Ha⟩, ⟨%fb, Hb⟩, ⟨%fr, Hr⟩, Hbufs⟩, ⟨Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (pts_oRow (F := F) d L _).symm) $$ Ho
  ihave Hd' := (Entails.of_eq (show (dLoc d ↦{part32 (wL L)} DATA : sProp 𝕄) = (dV).view.loc (thr d L) ↦{part32 (wL L)} DATA from rfl)) $$ Hd
  ihave Hi' := (Entails.of_eq (show (iLoc d ↦{part32 (wL L)} IDX : sProp 𝕄) = (iV).view.loc (thr d L) ↦{part32 (wL L)} IDX from rfl)) $$ Hi
  ihave Ha' := (Entails.of_eq (show ((thr d L).loc cc0_scratch0 ↦{fullShare} fa : sProp 𝕄) = (aV).view.loc (thr d L) ↦{fullShare} fa from rfl)) $$ Ha
  ihave Hb' := (Entails.of_eq (show ((thr d L).loc cc0_scratch1 ↦{fullShare} fb : sProp 𝕄) = (bV).view.loc (thr d L) ↦{fullShare} fb from rfl)) $$ Hb
  ihave Hr' := (Entails.of_eq (show ((thr d L).loc cc0_scratch2 ↦{fullShare} fr : sProp 𝕄) = (rV).view.loc (thr d L) ↦{fullShare} fr from rfl)) $$ Hr
  sl_exec
  sl_step
  have hrow : tile_body.sl.dma22 d L DATA IDX fa fb fr = fun y => rowVal (word L) (dW d DATA) (iW d IDX) (y 0) := by
    have hd : ∀ (o : Nat) (inb : ∀ a, (![o] : Fin 1 → Nat) a + S16.size a ≤ S96.size a) (h : o + 16 ≤ 96),
        View.readAt (Elt F) (aV).view (Rect.unit (s := S96) ![o] S16.size inb).toLoadRect
          (View.write (Elt F) (aV).view fa (tile_body.sl.dma0 d DATA) Finset.univ) = window o h (dW d DATA) := by
      intro o inb h
      rw [show View.write (Elt F) (aV).view fa (tile_body.sl.dma0 d DATA) Finset.univ = DATA from View.write_whole_univ _ _ _]
      exact funext fun x => congrArg DATA (rank1_emb o inb x h)
    have hi : ∀ (o : Nat) (inb : ∀ a, (![o] : Fin 1 → Nat) a + S16.size a ≤ S64.size a) (h : o + 16 ≤ 64),
        View.readAt (Elt F) (bV).view (Rect.unit (s := S64) ![o] S16.size inb).toLoadRect
          (View.write (Elt F) (bV).view fb (tile_body.sl.dma0_1 d IDX) Finset.univ) = window o h (iW d IDX) := by
      intro o inb h
      rw [show View.write (Elt F) (bV).view fb (tile_body.sl.dma0_1 d IDX) Finset.univ = IDX from View.write_whole_univ _ _ _]
      exact funext fun x => congrArg IDX (rank1_emb o inb x h)
    funext y
    unfold tile_body.sl.dma22 tile_body.sl.Hr'_6
    refine View.read_writes_apply_of_pieces (rV).view fr (fun y => rowVal (word L) (dW d DATA) (iW d IDX) (y 0)) _ ?_ y ?_
    · rw [hd 0 _ (by decide), hd 16 _ (by decide), hd 32 _ (by decide), hd 48 _ (by decide), hd 64 _ (by decide), hd 80 _ (by decide),
        hi 0 _ (by decide), hi 16 _ (by decide), hi 32 _ (by decide), hi 48 _ (by decide)]
      have hz : ∀ (o : Nat) (inb : ∀ a, (![o] : Fin 1 → Nat) a + S16.size a ≤ S96.size a) (_ : 32 ≤ o) (_ : o + 16 ≤ 96) (x : S16.Idx),
          shapeCast S16 (k0_pay5 (F := F)) shapeCasts_S16_S16 x = rowVal (word L) (dW d DATA) (iW d IDX) ((Rect.unit (s := S96) ![o] S16.size inb).emb x 0) :=
        fun o inb h32 h x => (zero_eq L (dW d DATA) (iW d IDX) o h32 h x).trans (congrArg (fun z : S96.Idx => rowVal (word L) (dW d DATA) (iW d IDX) (z 0)) (rank1_emb o inb x h).symm)
      have hs := sum_eq L (dW d DATA) (iW d IDX)
      intro p hp
      simp only [List.mem_cons, List.not_mem_nil, or_false] at hp
      rcases hp with rfl | rfl | rfl | rfl | rfl | rfl <;> intro x
      · exact hz 80 inb_S96_S16_80 (by decide) (by decide) x
      · exact hz 64 inb_S96_S16_64 (by decide) (by decide) x
      · exact hz 48 inb_S96_S16_48 (by decide) (by decide) x
      · exact hz 32 inb_S96_S16_32 (by decide) (by decide) x
      · exact (store1_eq L (dW d DATA) (iW d IDX) _ _ _ hs x).trans
          (congrArg (fun z : S96.Idx => rowVal (word L) (dW d DATA) (iW d IDX) (z 0)) (rank1_emb 16 inb_S96_S16_16 x (by decide)).symm)
      · exact (store0_eq L (dW d DATA) (iW d IDX) _ _ _ hs x).trans
          (congrArg (fun z : S96.Idx => rowVal (word L) (dW d DATA) (iW d IDX) (z 0)) (rank1_emb 0 inb_S96_S16_0 x (by decide)).symm)
    · exact View.cover_of_tiled _ ![16] rfl y
  ihave Ho2 := (Entails.of_eq (row_written (F := F) d L fo DATA IDX _ hrow)) $$ Ho'
  isplitl [Hd' Hi' Ho2]
  · isplitl [Hd']; · iexact Hd'
    isplitl [Hi']; · iexact Hi'
    iexact Ho2
  isplitl [Ha' Hb' Hr' Hbufs]
  · isplitl [Ha']; · iexists _; iexact Ha'
    isplitl [Hb']; · iexists _; iexact Hb'
    isplitl [Hr']; · iexists _; iexact Hr'
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

end Tile

/-! ## The host's operations before the launch -/

/-- The operations of `main` up to the launch, in order: the values padded from 50 to 64 and the weights put behind
    them (`main_v2`), the indices padded likewise (`main_v3`). -/
def hostOps : List (HloOp τ sig (Elt F)) :=
  [StableHlo.reshape main_arg0 main_v0 (rfl : (.f32 : EltTy) = .f32) shapeCasts_S50x1_S50,
    StableHlo.nullary main_c (constantI S_ 32 0#32),
    StableHlo.TRef.unary (.of main_c : StableHlo.TRef sig ⟨S_, .i32⟩) main_call0.v0 (sitofp .f32),
    StableHlo.TRef.binary (.of main_v0 : StableHlo.TRef sig ⟨S50, .f32⟩) main_call0.v0 main_call0.v1 (fun x v => pad S64 ![0] ![14] ![0] x v pads_S50_S64_0140 h_S_),
    StableHlo.binary main_v1 main_arg2 main_v2 ((fun a b => concatenate S96 0 [⟨S64, a⟩, ⟨S32, b⟩] concatenates_S64_S32_S96_d0) :
      (⟨S64, .f32⟩ : BufTy).Contents (Elt F) → (⟨S32, .f32⟩ : BufTy).Contents (Elt F) → (⟨S96, .f32⟩ : BufTy).Contents (Elt F)),
    StableHlo.nullary main_c_0 (constantI S_ 32 0#32),
    StableHlo.TRef.unary (.of main_c_0 : StableHlo.TRef sig ⟨S_, .i32⟩) main_call1.v0 id,
    StableHlo.TRef.binary (.of main_arg1 : StableHlo.TRef sig ⟨S50, .i32⟩) main_call1.v0 main_call1.v1 (fun x v => pad S64 ![0] ![14] ![0] x v pads_S50_S64_0140 h_S_)]

/-- `main` is those operations, then the launch. -/
theorem main_eq (d : Dev nD) : main (F := F) d = StableHlo.seq hostOps >>= fun _ => (sc.run d 0 >>= fun _ => pure ⟨⟩) := by
  rfl

theorem hostOps_bufs : ∀ op ∈ (hostOps : List (HloOp τ sig (Elt F))), op.bufs ⊆ Pipeline.ucRefs τ sig := fun op h =>
  Pipeline.sub_ucRefs op (List.forall_iff_forall_mem.mp
    (show (hostOps : List (HloOp τ sig (Elt F))).Forall fun op => op.bufs ⊆ StableHlo.tcRefs τ sig from
      ⟨StableHlo.reshape_bufs_sub .., StableHlo.nullary_bufs_sub .., StableHlo.unary_bufs_sub .., StableHlo.binary_bufs_sub ..,
        StableHlo.binary_bufs_sub .., StableHlo.nullary_bufs_sub .., StableHlo.unary_bufs_sub .., StableHlo.binary_bufs_sub ..⟩) op h)

theorem hostOps_fresh : ∀ op ∈ (hostOps : List (HloOp τ sig (Elt F))), op.fresh = ∅ :=
  List.forall_iff_forall_mem.mp (show (hostOps : List (HloOp τ sig (Elt F))).Forall fun op => op.fresh = ∅ from
    ⟨rfl, rfl, rfl, rfl, rfl, rfl, rfl, rfl⟩)

/-- The buffers the host's operations write, in order. -/
abbrev written : List (Ref sig .tc) := [main_v0, main_c, main_call0_v0, main_v1, main_v2, main_c_0, main_call1_v0, main_v3]

/-- The host's operations leave every other buffer. -/
theorem hostOps_keeps (V : Valuation τ sig (Elt F)) (r : Ref sig .tc) (hr : r ∉ written) :
    StableHlo.after hostOps V (Proc.devRef .tc r) = V (Proc.devRef .tc r) :=
  have one : ∀ y ∈ written, ({Proc.devRef .tc y} : Finset (DevRef τ sig)) ⊆ (written.map (Proc.devRef (τ := τ) .tc)).toFinset := fun _ hy =>
    Finset.singleton_subset_iff.mpr (List.mem_toFinset.mpr (List.mem_map_of_mem hy))
  StableHlo.after_of_writes_sub hostOps V
    (show (hostOps : List (HloOp τ sig (Elt F))).Forall fun op => op.writes ⊆ (written.map (Proc.devRef (τ := τ) .tc)).toFinset from
      ⟨one main_v0 (by decide), one main_c (by decide), one main_call0_v0 (by decide), one main_v1 (by decide), one main_v2 (by decide),
        one main_c_0 (by decide), one main_call1_v0 (by decide), one main_v3 (by decide)⟩) hr

variable (m : (ℓ : Loc nD τ sig) → Buf (Elt F) ℓ) (ρ : Dev nD → PrngReg)

/-- The contents of device `d` when the launch begins, from the contents `m` at the program's start. -/
def atLaunch (d : Dev nD) : Valuation τ sig (Elt F) := StableHlo.after hostOps fun b => m (d, b)

/-- What the arrays of the launch hold when it begins: the two that it reads, and its result's, which it overwrites. -/
abbrev DATA (d : Dev nD) : Buf (Elt F) (dLoc d) := atLaunch m d (Proc.devRef .tc main_v2)
abbrev IDX (d : Dev nD) : Buf (Elt F) (iLoc d) := atLaunch m d (Proc.devRef .tc main_v3)
abbrev INIT (d : Dev nD) : Buf (Elt F) (oLoc d) := atLaunch m d (Proc.devRef .tc main_v4)

/-! ## What passes between the threads -/

abbrev coreOf (c : Fin ((K (F := F)).nCore 0)) : Fin 2 := c
abbrev tileOf (i : Fin ((K (F := F)).nSub 0)) : Fin 16 := i

/-- What the tile of row `w` is handed: a share of each array it reads, and its row of the result. -/
abbrev task (d : Dev nD) (w : Fin 32) : sProp 𝕄 := iprop(dPts d w (DATA m d) ∗ iPts d w (IDX m d) ∗ oPts d w (INIT m d))
/-- What it hands back: the same shares, and the row written. -/
abbrev done (d : Dev nD) (w : Fin 32) : sProp 𝕄 := iprop(dPts d w (DATA m d) ∗ iPts d w (IDX m d) ∗ oPts d w (OUT d (DATA m d) (IDX m d)))

/-- A SparseCore is handed, and hands back, what its sixteen tiles are and do. -/
def P : (K (F := F)).Pay (nD := nD) (Val := Elt F) (Name := ℕ) (U := UU) where
  st := fun q d c => match q with | 0 => bigSep Finset.univ fun i : Fin 16 => task m d (wid (coreOf c) i)
  dn := fun q d c => match q with | 0 => bigSep Finset.univ fun i : Fin 16 => done m d (wid (coreOf c) i)
  go := fun q d c i => match q with | 0 => task m d (wid (coreOf c) (tileOf i))
  td := fun q d c i => match q with | 0 => done m d (wid (coreOf c) (tileOf i))
  x := fun _ _ => iprop(emp)

instance P_storable : (P (F := F) m).IsStorable where
  st q d c := match q with
    | 0 => (inferInstance : BI.Storable (upEmb : UEmb _ 𝕄) (bigSep Finset.univ fun i : Fin 16 => task m d (wid (coreOf c) i)))
  dn q d c := match q with
    | 0 => (inferInstance : BI.Storable (upEmb : UEmb _ 𝕄) (bigSep Finset.univ fun i : Fin 16 => done m d (wid (coreOf c) i)))
  go q d c i := match q with
    | 0 => (inferInstance : BI.Storable (upEmb : UEmb _ 𝕄) (task m d (wid (coreOf c) (tileOf i))))
  td q d c i := match q with
    | 0 => (inferInstance : BI.Storable (upEmb : UEmb _ 𝕄) (done m d (wid (coreOf c) (tileOf i))))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_segsum_outer (coordsV c s) dV (Memref.isWhole_whole _) iV (Memref.isWhole_whole _)
          oV (Memref.isWhole_whole _) aV (Memref.isWhole_whole _) bV (Memref.isWhole_whole _) rV (Memref.isWhole_whole _)
          cc0_scoped0 cc0_scoped1 cc0_scoped2) ⟨⟩ c s := rfl

omit [FloatOps F] in
/-- The waits a tile is left with, under the weaker bound that the launch asks for. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (DATA m d) (IDX m d) (INIT m d) hF O W hO).trans (wp_mono frame _ _ fun _ => waits_weaken)

theorem vecSplit : (K (F := F)).VecSplit' (P m) 0 := by
  intro d c
  show (bigSep Finset.univ fun i : Fin 16 => task m d (wid (coreOf c) i)) ⊢ |={Set.univ}=> iprop(
      (bigSep Finset.univ fun i : Fin 16 => task m d (wid (coreOf c) i))
      ∗ ((bigSep Finset.univ fun i : Fin 16 => done m d (wid (coreOf c) i)) -∗ bigSep Finset.univ fun i : Fin 16 => done m d (wid (coreOf c) i)))
  iintro H; imodintro
  isplitl [H]; · iexact H
  iintro H; iexact H

/-! ## The arrays cut among the tiles, and put together again -/

omit [FloatOps F] in
theorem rowSet_eq (w : Fin 32) : rowSet w = (row w).set := by
  show ((View.whole (main_v4_scv : Ref sig .scVector)).slice (row w)).set = _
  rw [View.set_slice]; exact Finset.map_refl

omit [FloatOps F] in
/-- The result is its thirty-two rows. -/
theorem out_rows (d : Dev nD) (f : Buf (Elt F) (oLoc d)) :
    (oLoc d ↦{fullShare} f : sProp 𝕄) = bigSep Finset.univ fun w : Fin 32 => oPts d w f := by
  have disj : ∀ v ∈ (Finset.univ : Finset (Fin 32)), ∀ w ∈ (Finset.univ : Finset (Fin 32)), v ≠ w → Disjoint (rowSet v) (rowSet w) :=
    fun v _ w _ h => by rw [rowSet_eq, rowSet_eq]; exact Rect.part_disjoint rows_dvd h
  have cover : (Finset.univ : Finset (Fin 32)).biUnion rowSet = Finset.univ :=
    (Finset.biUnion_congr rfl fun w _ => rowSet_eq w).trans (Rect.biUnion_part rows_dvd)
  refine Eq.trans ?_ (pointsTo_biUnion Finset.univ (ℓ := oLoc d) rowSet disj)
  rw [cover]

omit [FloatOps F] in
/-- The three arrays of the launch are what the thirty-two tiles hold of them. -/
theorem arrays_split (d : Dev nD) (f : Buf (Elt F) (dLoc d)) (g : Buf (Elt F) (iLoc d)) (h : Buf (Elt F) (oLoc d)) :
    (iprop((dLoc d ↦{fullShare} f) ∗ (iLoc d ↦{fullShare} g) ∗ oLoc d ↦{fullShare} h) : sProp 𝕄)
      = bigSep Finset.univ fun w : Fin 32 => iprop(dPts d w f ∗ iPts d w g ∗ oPts d w h) := by
  rw [bigSep_sep', bigSep_sep', out_rows, ShareLeaves.pointsTo_leaves Finset.univ f 5 fullShare, ShareLeaves.pointsTo_leaves Finset.univ g 5 fullShare]
  rfl

/-- A row is a SparseCore and a tile of it. -/
def rowOf : Fin 2 × Fin 16 ≃ Fin 32 where
  toFun p := wid p.1 p.2
  invFun w := (⟨w.val % 2, by omega⟩, ⟨w.val / 2, by omega⟩)
  left_inv p := Prod.ext (Fin.ext (by simp only [wid]; omega)) (Fin.ext (by simp only [wid]; omega))
  right_inv w := Fin.ext (by simp only [wid]; omega)

omit [FloatOps F] in
/-- What is held for every row is held for every tile of every SparseCore. -/
theorem deal (Φ : Fin 32 → sProp 𝕄) :
    (bigSep Finset.univ fun c : Fin 2 => bigSep Finset.univ fun i : Fin 16 => Φ (wid c i)) = bigSep Finset.univ Φ :=
  ((bigSep_univ_equiv rowOf Φ).trans (bigSep_univ_prod fun p => Φ (rowOf p))).symm

theorem st_eq (d : Dev nD) :
    (bigSep Finset.univ fun c : Fin ((K (F := F)).nCore 0) => (P m).st 0 d c)
      = iprop((dLoc d ↦{fullShare} DATA m d) ∗ (iLoc d ↦{fullShare} IDX m d) ∗ oLoc d ↦{fullShare} INIT m d) :=
  (deal (task m d)).trans (arrays_split d _ _ _).symm

theorem dn_eq (d : Dev nD) :
    (bigSep Finset.univ fun c : Fin ((K (F := F)).nCore 0) => (P m).dn 0 d c)
      = iprop((dLoc d ↦{fullShare} DATA m d) ∗ (iLoc d ↦{fullShare} IDX m d) ∗ oLoc d ↦{fullShare} OUT d (DATA m d) (IDX m d)) :=
  (deal (done m d)).trans (arrays_split d _ _ _).symm

/-! ## The launch's ghost state -/

def u₀ : UU := (initOf (K (F := F)).hsCells (K (F := F)).hsToks, 1)

omit [FloatOps F] in
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## `main` on the TensorCore -/

/-- The buffers that the rest of the proof follows: the arguments and the launch's arrays. -/
def followed : Finset (DevRef τ sig) :=
  {Proc.devRef .tc main_arg0, Proc.devRef .tc main_arg1, Proc.devRef .tc main_arg2, Proc.devRef .tc main_v2, Proc.devRef .tc main_v3, Proc.devRef .tc main_v4}

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2

/-- What `main` ends with on a device: its arguments as they were, and the result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ oLoc d ↦{fullShare} OUT d (DATA m d) (IDX m d))

omit [FloatOps F] in
theorem held_followed (d : Dev nD) (W : Valuation τ sig (Elt F)) :
    (held (d.tc : Thread nD τ) followed W : sProp 𝕄)
      = iprop((a0Loc d ↦{fullShare} W (Proc.devRef .tc main_arg0)) ∗ (a1Loc d ↦{fullShare} W (Proc.devRef .tc main_arg1))
          ∗ (a2Loc d ↦{fullShare} W (Proc.devRef .tc main_arg2)) ∗ (dLoc d ↦{fullShare} W (Proc.devRef .tc main_v2))
          ∗ (iLoc d ↦{fullShare} W (Proc.devRef .tc main_v3)) ∗ oLoc d ↦{fullShare} W (Proc.devRef .tc main_v4)) := by
  unfold StableHlo.held followed
  rw [SparseCore.bigSep_insert' (by decide), SparseCore.bigSep_insert' (by decide), SparseCore.bigSep_insert' (by decide),
    SparseCore.bigSep_insert' (by decide), SparseCore.bigSep_insert' (by decide), bigSep_singleton]

theorem followed_sub : followed ⊆ Pipeline.ucRefs τ sig := by decide

/-- The buffers at the launch: the arguments are as at the start. -/
theorem launch_bufs (d : Dev nD) :
    (held (d.tc : Thread nD τ) (Pipeline.ucRefs τ sig) (StableHlo.after hostOps fun b => m (d, b)) : sProp 𝕄)
      ⊢ iprop(((a0Loc d ↦{fullShare} m (a0Loc d)) ∗ (a1Loc d ↦{fullShare} m (a1Loc d)) ∗ (a2Loc d ↦{fullShare} m (a2Loc d)))
          ∗ (dLoc d ↦{fullShare} DATA m d) ∗ (iLoc d ↦{fullShare} IDX m d) ∗ oLoc d ↦{fullShare} INIT m d) := by
  rw [StableHlo.held_sub_split _ followed_sub, held_followed]
  unfold DATA IDX INIT atLaunch
  rw [hostOps_keeps _ main_arg0 (by decide), hostOps_keeps _ main_arg1 (by decide), hostOps_keeps _ main_arg2 (by decide)]
  iintro ⟨⟨H0, H1, H2, H3, H4, H5⟩, -⟩
  isplitl [H0 H1 H2]
  · isplitl [H0]; · iexact H0
    isplitl [H1]; · iexact H1
    iexact H2
  isplitl [H3]; · iexact H3
  isplitl [H4]; · iexact H4
  iexact H5

/-- `main` on device `d`: the host's operations, then the launch from the arrays they leave. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (fun b => m (d, b)) from
    Pipeline.unscopedBufs_held d fun b => m (d, b)]
  iintro ⟨#Hctx, Hst, ⟨Hb, Hheld, Hts, -⟩, -⟩
  iapply (StableHlo.wp_seq 𝒱 none Set.univ d (Pipeline.ucRefs τ sig) _ hostOps hostOps_bufs hostOps_fresh _) $$ [Hb Hheld]
  · isplitl [Hb] <;> iassumption
  iintro ⟨Hb, Hheld⟩
  ihave H := (launch_bufs m d) $$ Hheld
  icases H with ⟨Hargs, Harr⟩
  simp only [wp_bind, wp_pure]
  iapply ((K (F := F)).wp_run (D (F := F)) 𝒱 (EH := EH) (P := P m) κ d 0) $$ [Hst Harr Hargs Hb Hts]
  isplitr; · iexact Hctx
  isplitl [Hst]; · iexact Hst
  isplitl [Harr]
  · rw [st_eq]; iexact Harr
  iintro ⟨Hst, Hdn⟩
  ihave Hdn' := (Entails.of_eq (dn_eq m d)) $$ Hdn
  icases Hdn' with ⟨-, -, Ho⟩
  icases Hargs with ⟨H0, H1, H2⟩
  imodintro
  isplitl [Hst]; · iexact Hst
  isplitl [H0 H1 H2 Ho]
  · isplitl [H0]; · iexact H0
    isplitl [H1]; · iexact H1
    isplitl [H2]; · iexact H2
    iexact Ho
  isplitl [Hb] <;> iassumption

/-! ## The program's run -/

/-- What holds of a device's memory at the end. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (oLoc d) = OUT d (DATA m d) (IDX m d)

omit [FloatOps F] in
/-- What is held at some contents is what the memory has there. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, HSI⟩
  ihave H := (agree s' _ _) $$ [H3 HSI]
  · isplitl [H3] <;> iassumption
  icases H with ⟨%h3, -⟩
  ipureintro; exact ⟨h0, h1, h2, h3⟩

/-- What holds of the mesh at the end: on every device the arguments are unchanged and the result is what the tiles
    leave; every semaphore is at zero. -/
def QC : PUnit × MemSt nD τ sig (Elt F) → Prop := fun r =>
  (∀ d : Dev nD, r.2.mem (a0Loc d) = m (a0Loc d) ∧ r.2.mem (a1Loc d) = m (a1Loc d) ∧ r.2.mem (a2Loc d) = m (a2Loc d)
    ∧ r.2.mem (oLoc d) = OUT d (DATA m d) (IDX m d)) ∧ r.2.sem = fun _ => 0

/-- Every run of the program from contents `m` ends there. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.Value.lean ====
module

public import proofs.«01_k».proof.Proof.KernelIdealRun
public import proofs.«01_k».proof.Proof.Gen.ReferenceIdeal.Run
public import proofs.«01_k».proof.Proof.Gen.Pre_nonnegative_index
public import Idealize.ShloMosaic.Lib.ReduceAll
public import Idealize.ShloMosaic.Lib.Routing.OpsPair
public import Idealize.ShloMosaic.Lib.Routing.Ops
public import Idealize.ShloMosaic.Lib.Pointwise
public import Idealize.ShloMosaic.Lib.StackMember
public import Idealize.ShloMosaic.Lib.KernelVsHost
public import Idealize.ShloMosaic.Lib.ValueLayout
public import Idealize.ShloMosaic.Lib.ValueLayoutCasts

@[expose] public section

/-! # The value of the kernel's result, and of the reference's

Over the extended reals both are the same: at row `r` and column `c < 32` the sum of the values whose index is `r`, times
the weight `c`; from column 32 on, zero. -/

noncomputable section

namespace Cert.Proof.Value

open Idealize.ShloMosaic
open Cert.Proof.Segment Cert.Proof.KernelIdealRun

/-! ## The common value -/

/-- The sum of the values whose index is the word `w`. -/
def total (x : Fin 50 → EReal) (ix : Fin 50 → BitVec 32) (w : BitVec 32) : EReal := ∑ k : Fin 50, if ix k = w then x k else 0

/-- The result at a row and a column. -/
def spec (x : Fin 50 → EReal) (ix : Fin 50 → BitVec 32) (W : Fin 32 → EReal) (r : Nat) (c : Nat) : EReal :=
  if h : c < 32 then total x ix (BitVec.ofNat 32 r) * W ⟨c, h⟩ else 0

/-! ## The kernel's additions -/

/-- Additions one after another onto `z` are `z` plus the sum. -/
theorem foldl_add {α : Type} (f : α → EReal) (l : List α) (z : EReal) : l.foldl (fun a b => a + f b) z = z + (l.map f).sum := by
  induction l generalizing z with
  | nil => simp
  | cons b l ih => rw [List.foldl_cons, ih, List.map_cons, List.sum_cons, add_assoc]

/-- The same over the first `n` numbers. -/
theorem foldl_finRange {n : Nat} (f : Fin n → EReal) (z : EReal) : (List.finRange n).foldl (fun a b => a + f b) z = z + ∑ b, f b := by
  rw [foldl_add, Fin.sum_univ_def]

/-- The word zero is the number zero. -/
theorem zero_word : (Scalar.ofBits .f32 0#32 : Ideal .f32) = (0 : EReal) := Ideal.ofBits_zero_f32

section Kernel

variable (w : BitVec 32) (D : Fin 96 → Ideal .f32) (X : Fin 64 → BitVec 32)

/-- A picked value as a conditional. -/
theorem pick_eq (k : Fin 64) : pick w D X k = (if X k = w then D (k.castLE (by decide)) else 0 : EReal) := by
  unfold pick
  rw [zero_word]
  by_cases h : X k = w
  · rw [if_pos h, h]; simp [Scalar.select, IntOp.cmpi]
  · rw [if_neg h]; simp [Scalar.select, IntOp.cmpi, beq_eq_false_iff_ne.mpr h]

/-- A lane's value as a sum. -/
theorem lane_eq (j : Fin 16) : lane w D X j = (∑ b : Fin 4, pick w D X ⟨16 * b.val + j.val, by omega⟩ : EReal) := by
  refine (foldl_finRange (fun b : Fin 4 => pick w D X ⟨16 * b.val + j.val, by omega⟩) _).trans ?_
  rw [zero_word, zero_add]

/-- The sum of the lanes is the sum over all 64 places. -/
theorem segSum_eq : segSum w D X = (∑ k : Fin 64, pick w D X k : EReal) := by
  have h : segSum w D X = (∑ j : Fin 16, lane w D X j : EReal) := by
    refine (foldl_finRange (fun j : Fin 15 => lane w D X j.succ) _).trans ?_
    exact (Fin.sum_univ_succ (fun j : Fin 16 => (lane w D X j : EReal))).symm
  rw [h, ← Equiv.sum_comp (finProdFinEquiv : Fin 4 × Fin 16 ≃ Fin 64), Fintype.sum_prod_type, Finset.sum_comm]
  refine Finset.sum_congr rfl fun j _ => (lane_eq w D X j).trans (Finset.sum_congr rfl fun b _ => congrArg (pick w D X) (Fin.ext ?_))
  show 16 * b.val + j.val = j.val + 16 * b.val
  omega

/-- With zeros from place 50 on, a tile's sum is the sum over the 50 values. -/
theorem segSum_total (hz : ∀ k : Fin 14, D ⟨50 + k.val, by omega⟩ = (0 : EReal)) :
    segSum w D X = total (fun k => D (k.castLE (by decide))) (fun k => X (k.castLE (by decide))) w := by
  rw [segSum_eq]
  refine (Fin.sum_univ_add (a := 50) (b := 14) fun k : Fin 64 => (pick w D X k : EReal)).trans ?_
  rw [Finset.sum_eq_zero (s := (Finset.univ : Finset (Fin 14))) fun k _ => ?_, add_zero]
  · exact Finset.sum_congr rfl fun k _ => pick_eq w D X _
  · rw [pick_eq]
    split
    · exact hz k
    · rfl

end Kernel

/-! ## What the kernel's arrays hold when the launch begins -/

section Launch

open Cert.KernelIdeal Cert.KernelIdeal.Gen

variable (m : (ℓ : Loc nD τ sig) → Buf (Elt Ideal) ℓ) (d : Dev nD)

/-- The data: the values, padded to 64, then the weights. -/
theorem data_term : DATA m d = concatenate S96 0 [⟨S64, pad S64 ![0] ![14] ![0] (shapeCast S50 (m (a0Loc d)) shapeCasts_S50x1_S50)
      (sitofp (F := Ideal) .f32 (constantI S_ 32 0#32)) pads_S50_S64_0140 h_S_⟩, ⟨S32, m (a2Loc d)⟩] concatenates_S64_S32_S96_d0 := by
  unfold DATA atLaunch hostOps
  after_results <;> rfl

/-- The indices, padded to 64. -/
theorem idx_term : IDX m d = pad S64 ![0] ![14] ![0] (m (a1Loc d)) (constantI S_ 32 0#32) pads_S50_S64_0140 h_S_ := by
  unfold IDX atLaunch hostOps
  after_results <;> rfl

/-- Place `k < 50` of the data is value `k`. -/
theorem data_value (k : Fin 50) : dW d (DATA m d) (k.castLE (by decide)) = m (a0Loc d) (ix2 k (0 : Fin 1)) := by
  have hk := k.isLt
  show DATA m d (ValueIdx.ix1 (⟨k.val, by omega⟩ : Fin 96)) = _
  rw [data_term]
  pointwise
  rw [dif_pos (by omega)]

/-- Places 50 to 63 are zero. -/
theorem data_zero (k : Fin 14) : dW d (DATA m d) ⟨50 + k.val, by omega⟩ = (0 : EReal) := by
  have hk := k.isLt
  show DATA m d (ValueIdx.ix1 _) = _
  rw [data_term]
  pointwise
  rw [dif_pos (by omega)]
  exact Idealize.ShloMosaic.sitofp_zero (φ := .f32)

/-- Place `64 + k` is weight `k`. -/
theorem data_weight (k : Fin 32) : dW d (DATA m d) ⟨64 + k.val, by omega⟩ = m (a2Loc d) (ValueIdx.ix1 k) := by
  have hk := k.isLt
  show DATA m d (ValueIdx.ix1 _) = _
  rw [data_term]
  pointwise
  rfl

/-- Place `k < 50` of the padded indices is index `k`. -/
theorem idx_value (k : Fin 50) : iW d (IDX m d) (k.castLE (by decide)) = m (a1Loc d) (ValueIdx.ix1 k) := by
  have hk := k.isLt
  show IDX m d (ValueIdx.ix1 (⟨k.val, by omega⟩ : Fin 64)) = _
  rw [idx_term]
  generalize (m (a1Loc d) : IVec S50 32) = x
  refine (Routing.pad1 (n := 50) (m := 64) (lo := 0) (hi := 14) x _ _ _ ⟨k.val, by omega⟩).trans ?_
  rw [dif_pos ⟨Nat.zero_le _, hk⟩]
  rfl

/-- The kernel's result is the common value. -/
theorem out_spec (r : Fin 32) (c : Fin 96) :
    OUT d (DATA m d) (IDX m d) (ix2 r c)
      = spec (fun k => m (a0Loc d) (ix2 k (0 : Fin 1))) (fun k => m (a1Loc d) (ValueIdx.ix1 k)) (fun k => m (a2Loc d) (ValueIdx.ix1 k)) r.val c.val := by
  show rowVal (BitVec.ofNat 32 r.val) (dW d (DATA m d)) (iW d (IDX m d)) c = _
  unfold rowVal spec
  by_cases hc : c.val < 32
  · rw [dif_pos hc, dif_pos hc, segSum_total _ _ _ (data_zero m d)]
    rw [show dW d (DATA m d) ⟨64 + c.val, _⟩ = _ from data_weight m d ⟨c.val, hc⟩]
    rw [funext (data_value m d), funext (idx_value m d)]
    rfl
  · rw [dif_neg hc, dif_neg hc, zero_word]

end Launch

/-! ## The reference's value -/

section Reference

open Cert.ReferenceIdeal Cert.ReferenceIdeal.Gen

/-- A word of 32 bits is the number `r < 32` when it reads so as a signed integer. -/
theorem word_iff (w : BitVec 32) (r : Fin 32) : w.toInt = (r.val : Int) ↔ w = BitVec.ofNat 32 r.val := by
  have hr := r.isLt
  constructor
  · intro h
    apply BitVec.eq_of_toInt_eq
    rw [h]
    fin_cases r <;> rfl
  · rintro rfl
    fin_cases r <;> rfl

/-- Update `k` lands in row `r` exactly when its index, read signed, is `r`; an index that is negative, or 32 and more, lands nowhere. -/
theorem lands (ix : IVec S50x1 32) (k : Fin 50) (r : Fin 32) :
    scatter_S32x1_S50x1_S50x1_1_0_0_1.resultIdx? (ix2 k (0 : Fin 1)) ix = some (ix2 r (0 : Fin 1)) ↔ (ix (ix2 k (0 : Fin 1))).toInt = (r.val : Int) := by
  have s0 : scatter_S32x1_S50x1_S50x1_1_0_0_1.start (ix2 k (0 : Fin 1)) ix 0 = (ix (ix2 k (0 : Fin 1))).toInt := by
    refine congrArg (fun i => (ix i).toInt) (funext fun a => Fin.ext ?_)
    match a with
    | ⟨0, _⟩ => rfl
    | ⟨1, _⟩ => rfl
  have s1 : scatter_S32x1_S50x1_S50x1_1_0_0_1.start (ix2 k (0 : Fin 1)) ix 1 = 0 := rfl
  have w0 : scatter_S32x1_S50x1_S50x1_1_0_0_1.window (ix2 k (0 : Fin 1)) 0 = 0 := rfl
  have w1 : scatter_S32x1_S50x1_S50x1_1_0_0_1.window (ix2 k (0 : Fin 1)) 1 = 0 := rfl
  rw [Routing.resultIdx?_eq_some]
  constructor
  · intro h
    have h0 := h 0
    rw [s0, w0] at h0
    simpa using h0
  · intro h a
    match a with
    | ⟨0, _⟩ => exact (congrArg₂ (· + ·) s0 (congrArg Nat.cast w0)).trans ((add_zero _).trans h)
    | ⟨1, _⟩ => exact (congrArg₂ (· + ·) s1 (congrArg Nat.cast w1))

/-- The scatter onto zeros holds, at row `r`, the total of the index `r`. -/
theorem scatter_total (x : FVec Ideal S50x1 .f32) (ix : IVec S50x1 32) (z : FVec Ideal S32x1 .f32) (hz : ∀ i, z i = (0 : EReal)) (r : Fin 32) :
    Host.scatterAdd scatter_S32x1_S50x1_S50x1_1_0_0_1 z ix x (ix2 r (0 : Fin 1))
      = total (fun k => x (ix2 k (0 : Fin 1))) (fun k => ix (ix2 k (0 : Fin 1))) (BitVec.ofNat 32 r.val) := by
  show z _ + ∑ j ∈ Finset.univ.filter (fun j => scatter_S32x1_S50x1_S50x1_1_0_0_1.resultIdx? j ix = some (ix2 r (0 : Fin 1))), x j = _
  rw [hz, zero_add, Finset.sum_filter]
  rw [sum_idx2]
  unfold total
  refine Finset.sum_congr rfl fun k _ => ?_
  rw [Fin.sum_univ_one]
  by_cases h : ix (ix2 k (0 : Fin 1)) = BitVec.ofNat 32 r.val
  · rw [if_pos h, if_pos ((lands ix k r).mpr ((word_iff _ r).mpr h))]
  · rw [if_neg h, if_neg fun e => h ((word_iff _ r).mp ((lands ix k r).mp e))]

/-- With no index negative, what the reference makes of the indices is the indices. -/
theorem wrapped (ix a : IVec S50 32) (h : ∀ i, 0 ≤ (ix i).toInt) :
    select (cmpi .slt ix (broadcastInDim S50 ![] bcast_S_S50 (constantI S_ 32 0#32))) a ix = ix := by
  funext i
  show Scalar.select (BitVec.ofBool ((ix i).slt 0#32)) (a i) (ix i) = ix i
  rw [show (ix i).slt 0#32 = false by rw [BitVec.slt_eq_decide]; simpa using h i]
  rfl

/-- The indices as a column. -/
theorem column (ix : IVec S50 32) (k : Fin 50) : broadcastInDim S50x1 ![0] bcast_S50_S50x1_0 ix (ix2 k (0 : Fin 1)) = ix (ValueIdx.ix1 k) := by
  pointwise
  rfl

/-- The weights as a row. -/
theorem weights (W : FVec Ideal S32 .f32) (c : Fin 32) : shapeCast S1x32 W shapeCasts_S32_S1x32 (ix2 (0 : Fin 1) c) = W (ValueIdx.ix1 c) := by
  pointwise
  rfl

/-- The product of the column of sums by the row of weights. -/
theorem outer (A : FVec Ideal S32x1 .f32) (B : FVec Ideal S1x32 .f32) (r c : Fin 32) :
    Host.dotGeneral dot_S32x1_S1x32_S32x32_1_0_0_1_n_n none A B (ix2 r c) = (A (ix2 r (0 : Fin 1)) * B (ix2 (0 : Fin 1) c) : EReal) := by
  refine (StackMember.dotGeneral_plain_apply (m := 32) (k := 1) (n := 32) none A B r c).trans ?_
  exact Fin.sum_univ_one _

/-- The reshapes and the transposition between the product and the concatenation change no entry. -/
theorem reshaped (y : FVec Ideal S32x32 .f32) (r c : Fin 32) :
    shapeCast S32x32 (transpose S32x32x1 [0, 2, 1] (shapeCast S32x1x32 y shapeCasts_S32x32_S32x1x32) transposes_S32x1x32_S32x32x1_0_2_1)
      shapeCasts_S32x32x1_S32x32 (ix2 r c) = y (ix2 r c) := by
  pointwise

/-- The concatenation's first 32 columns are the first array's. -/
theorem first_columns (A : FVec Ideal S32x32 .f32) (B : FVec Ideal S32x24 .f32) (C : FVec Ideal S32x40 .f32) (r : Fin 32) (c : Fin 96) (hc : c.val < 32) :
    concatenate S32x96 1 [⟨S32x32, A⟩, ⟨S32x24, B⟩, ⟨S32x40, C⟩] concatenates_S32x32_S32x24_S32x40_S32x96_d1 (ix2 r c) = A (ix2 r ⟨c.val, hc⟩) := by
  pointwise
  rw [dif_pos hc]

/-- Its other columns are zero when the two other arrays are. -/
theorem last_columns (A : FVec Ideal S32x32 .f32) (B : FVec Ideal S32x24 .f32) (C : FVec Ideal S32x40 .f32) (hB : ∀ i, B i = (0 : EReal)) (hC : ∀ i, C i = (0 : EReal))
    (r : Fin 32) (c : Fin 96) (hc : ¬ c.val < 32) :
    concatenate S32x96 1 [⟨S32x32, A⟩, ⟨S32x24, B⟩, ⟨S32x40, C⟩] concatenates_S32x32_S32x24_S32x40_S32x96_d1 (ix2 r c) = (0 : EReal) := by
  pointwise
  rw [dif_neg hc]
  split
  · exact hB _
  · exact hC _

/-- The reference's result as one term of its arguments. -/
abbrev result (x : FVec Ideal S50x1 .f32) (ix : IVec S50 32) (W : FVec Ideal S32 .f32) : FVec Ideal S32x96 .f32 :=
  concatenate S32x96 1 [⟨S32x32, shapeCast S32x32 (transpose S32x32x1 [0, 2, 1] (shapeCast S32x1x32
      (Host.dotGeneral dot_S32x1_S1x32_S32x32_1_0_0_1_n_n none
        (Host.scatterAdd scatter_S32x1_S50x1_S50x1_1_0_0_1 (broadcastInDim S32x1 ![] bcast_S_S32x1 (constant S_ .f32 0x00000000#32))
          (broadcastInDim S50x1 ![0] bcast_S50_S50x1_0 (select (cmpi .slt ix (broadcastInDim S50 ![] bcast_S_S50 (constantI S_ 32 0#32)))
            (addi ix (broadcastInDim S50 ![] bcast_S_S50 (constantI S_ 32 32#32))) ix)) x)
        (shapeCast S1x32 W shapeCasts_S32_S1x32)) shapeCasts_S32x32_S32x1x32) transposes_S32x1x32_S32x32x1_0_2_1) shapeCasts_S32x32x1_S32x32⟩,
    ⟨S32x24, broadcastInDim S32x24 ![] bcast_S_S32x24 (constant S_ .f32 0x00000000#32)⟩,
    ⟨S32x40, broadcastInDim S32x40 ![] bcast_S_S32x40 (constant S_ .f32 0x00000000#32)⟩] concatenates_S32x32_S32x24_S32x40_S32x96_d1

/-- The reference's result is the common value. -/
theorem result_spec (x : FVec Ideal S50x1 .f32) (ix : IVec S50 32) (W : FVec Ideal S32 .f32) (h : ∀ i, 0 ≤ (ix i).toInt) (r : Fin 32) (c : Fin 96) :
    result x ix W (ix2 r c) = spec (fun k => x (ix2 k (0 : Fin 1))) (fun k => ix (ValueIdx.ix1 k)) (fun k => W (ValueIdx.ix1 k)) r.val c.val := by
  unfold result spec
  rw [wrapped ix _ h]
  by_cases hc : c.val < 32
  · rw [dif_pos hc]
    refine (first_columns _ _ _ r c hc).trans ((reshaped _ r ⟨c.val, hc⟩).trans ((outer _ _ r ⟨c.val, hc⟩).trans ?_))
    refine congrArg₂ (· * ·) ((scatter_total x _ (broadcastInDim S32x1 ![] bcast_S_S32x1 (constant S_ .f32 0x00000000#32)) (fun _ => zero_word) r).trans ?_)
      (weights W ⟨c.val, hc⟩)
    exact congrArg (total _ · _) (funext (column ix))
  · rw [dif_neg hc]
    exact last_columns _ _ _ (fun _ => zero_word) (fun _ => zero_word) r c hc

end Reference

/-! ## The precondition, and the equation -/

open Cert.KernelIdeal in
/-- Under the precondition no index is negative. -/
theorem index_nonneg (m : (ℓ : Loc nD τ sig) → Buf (Elt Ideal) ℓ) (h : Cert.Pre_KernelIdeal_nonnegative_index (hPre_nonnegative_index := Cert.Pre_nonnegative_index.Gen.facts) m) (d : Dev nD) (i : Cert.ReferenceIdeal.S50.Idx) :
    0 ≤ (m (a1Loc d) i : BitVec 32).toInt := by
  haveI : Subsingleton Cert.Pre_nonnegative_index.S_.Idx := ⟨fun _ _ => funext fun a => a.elim0⟩
  have e := Host.reduce_andi_all _ _ _ _ ValueIdx.ix0 (congrFun (h d) ValueIdx.ix0) i
  change BitVec.ofBool ((0#32).sle (m (a1Loc d) i)) = 1#1 at e
  generalize (m (a1Loc d) i : BitVec 32) = w at e ⊢
  rw [BitVec.sle_eq_decide] at e
  by_contra hw
  rw [decide_eq_false (by simpa using hw)] at e
  exact absurd e (by decide)

open Cert.KernelIdeal in
/-- What the kernel leaves in its result is the reference's result of the same arguments. -/
theorem out_eq (m : (ℓ : Loc nD τ sig) → Buf (Elt Ideal) ℓ) (d : Dev nD) (h : ∀ i : Cert.ReferenceIdeal.S50.Idx, 0 ≤ (m (a1Loc d) i : BitVec 32).toInt) :
    OUT d (DATA m d) (IDX m d) = result (m (a0Loc d)) (m (a1Loc d)) (m (a2Loc d)) := by
  funext y
  obtain ⟨r, c, rfl⟩ : ∃ (r : Fin 32) (c : Fin 96), y = ix2 r c := ⟨y 0, y 1, eq_ix2 y⟩
  exact (out_spec m d r c).trans (result_spec _ _ _ h r c).symm

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nonnegative_index
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_nonnegative_index.Gen.facts

set_option maxRecDepth 65536 in
/-- The kernel ends, its arguments kept and its semaphores at zero. -/
theorem kernel_frame : Cert.quiescent_Kernel := fun m ρ _ =>
  (θ_run Cert.Kernel.defs _ _).mono (fun _ h => ⟨fun c => ⟨(h.1 c).1, (h.1 c).2.1, (h.1 c).2.2.1⟩, h.2⟩)
    (KernelIdealRun.run_main (F := Bits) m ρ)

/-- So does the ideal program. -/
theorem ideal_frame : Cert.quiescent_KernelIdeal := fun m ρ _ =>
  (θ_run Cert.KernelIdeal.defs _ _).mono (fun _ h => ⟨fun c => ⟨(h.1 c).1, (h.1 c).2.1, (h.1 c).2.2.1⟩, h.2⟩)
    (KernelIdealRun.run_main m ρ)

/-- And the reference, which has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's result is the reference's, where no index is negative. -/
theorem same_value : Cert.algebraic_KernelIdeal_ReferenceIdeal_pre_nonnegative_index := by
  intro m ρ m' ρ' hpre hargs
  refine ⟨fun c => KernelIdealRun.OUT c (KernelIdealRun.DATA m c) (KernelIdealRun.IDX m c), ?_, ?_⟩
  · exact (θ_run Cert.KernelIdeal.defs _ _).mono (fun _ h c => ⟨(h.1 c).2.2.2, (h.1 c).1, (h.1 c).2.1, (h.1 c).2.2.1⟩)
      (KernelIdealRun.run_main m ρ)
  · refine (θ_run Cert.ReferenceIdeal.defs _ _).mono (fun _ h c => ⟨(h c).1.trans ?_, (h c).2⟩) (Cert.ReferenceIdeal.Value.run m' ρ')
    obtain ⟨h0, h1, h2⟩ := hargs c
    rw [h0, h1, h2]
    exact (Value.out_eq m c (Value.index_nonneg m hpre c)).symm

/-- Everything the certificate claims. -/
theorem claim : Cert.Claim :=
  ⟨Cert.Kernel.Gen.facts, Cert.KernelIdeal.Gen.facts, Cert.ReferenceIdeal.Gen.facts, Cert.Pre_nonnegative_index.Gen.facts,
    kernel_frame, ideal_frame, fun m ρ _ => ideal_frame m ρ trivial, reference_frame, fun m ρ _ => reference_frame m ρ trivial, trivial, same_value⟩

end Cert.Proof

end
